-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1536x1920 : Shape := ⟨3, ![2, 1536, 1920]⟩
abbrev S2x1536 : Shape := ⟨2, ![2, 1536]⟩
abbrev S1920x1856 : Shape := ⟨2, ![1920, 1856]⟩
abbrev S15x3712 : Shape := ⟨2, ![15, 3712]⟩
abbrev S3712 : Shape := ⟨1, ![3712]⟩
abbrev S1x3712 : Shape := ⟨2, ![1, 3712]⟩
abbrev S3072x1920 : Shape := ⟨2, ![3072, 1920]⟩
abbrev S3072x1 : Shape := ⟨2, ![3072, 1]⟩
abbrev S3072x3712 : Shape := ⟨2, ![3072, 3712]⟩
abbrev S512x1920 : Shape := ⟨2, ![512, 1920]⟩
abbrev S512x1 : Shape := ⟨2, ![512, 1]⟩
abbrev S512x3712 : Shape := ⟨2, ![512, 3712]⟩
abbrev S1920x3712 : Shape := ⟨2, ![1920, 3712]⟩
abbrev S128x1856 : Shape := ⟨2, ![128, 1856]⟩
abbrev S32x1856 : Shape := ⟨2, ![32, 1856]⟩
abbrev S32x3712 : Shape := ⟨2, ![32, 3712]⟩
abbrev S128x3712 : Shape := ⟨2, ![128, 3712]⟩

abbrev nBuf : Space → Nat
  | .hbm => 10
  | .vmem => 11
  | .smem => 0
  | _ => 0

abbrev bufTy : (tb : Table) → Fin (tcTables nBuf tb) → BufTy
  | .hbm, ⟨0, _⟩ => ⟨S2x1536x1920, .i8⟩
  | .hbm, ⟨1, _⟩ => ⟨S2x1536, .f32⟩
  | .hbm, ⟨2, _⟩ => ⟨S1920x1856, .i8⟩
  | .hbm, ⟨3, _⟩ => ⟨S15x3712, .i8⟩
  | .hbm, ⟨4, _⟩ => ⟨S15x3712, .i8⟩
  | .hbm, ⟨5, _⟩ => ⟨S3712, .f32⟩
  | .hbm, ⟨6, _⟩ => ⟨S1x3712, .f32⟩
  | .hbm, ⟨7, _⟩ => ⟨S3072x1920, .i8⟩
  | .hbm, ⟨8, _⟩ => ⟨S3072x1, .f32⟩
  | .hbm, ⟨9, _⟩ => ⟨S3072x3712, .bf16⟩
  | .local _ .vmem, ⟨0, _⟩ => ⟨S512x1920, .i8⟩
  | .local _ .vmem, ⟨1, _⟩ => ⟨S512x1920, .i8⟩
  | .local _ .vmem, ⟨2, _⟩ => ⟨S512x1, .f32⟩
  | .local _ .vmem, ⟨3, _⟩ => ⟨S512x1, .f32⟩
  | .local _ .vmem, ⟨4, _⟩ => ⟨S1920x1856, .i8⟩
  | .local _ .vmem, ⟨5, _⟩ => ⟨S15x3712, .i8⟩
  | .local _ .vmem, ⟨6, _⟩ => ⟨S15x3712, .i8⟩
  | .local _ .vmem, ⟨7, _⟩ => ⟨S1x3712, .f32⟩
  | .local _ .vmem, ⟨8, _⟩ => ⟨S512x3712, .bf16⟩
  | .local _ .vmem, ⟨9, _⟩ => ⟨S512x3712, .bf16⟩
  | .local _ .vmem, ⟨10, _⟩ => ⟨S1920x3712, .bf16⟩
  | _, _ => ⟨S2x1536x1920, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1920 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1920x1856 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S15x3712 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S15x3712 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3712 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3712 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S2x1536x1920 : Shape := ⟨3, ![2, 1536, 1920]⟩
abbrev S2x1536 : Shape := ⟨2, ![2, 1536]⟩
abbrev S1920x1856 : Shape := ⟨2, ![1920, 1856]⟩
abbrev S15x3712 : Shape := ⟨2, ![15, 3712]⟩
abbrev S3712 : Shape := ⟨1, ![3712]⟩
abbrev S_ : Shape := ⟨0, ![]⟩
abbrev S15x1856 : Shape := ⟨2, ![15, 1856]⟩
abbrev S15x128x1856 : Shape := ⟨3, ![15, 128, 1856]⟩
abbrev S15x1x1856 : Shape := ⟨3, ![15, 1, 1856]⟩
abbrev S2x1536x1856 : Shape := ⟨3, ![2, 1536, 1856]⟩
abbrev S2x1536x3712 : Shape := ⟨3, ![2, 1536, 3712]⟩
abbrev S2x1536x1 : Shape := ⟨3, ![2, 1536, 1]⟩
abbrev S1x1x3712 : Shape := ⟨3, ![1, 1, 3712]⟩
abbrev S3072x3712 : Shape := ⟨2, ![3072, 3712]⟩

abbrev nBuf : Space → Nat
  | .hbm => 56
  | .vmem => 0
  | .smem => 0
  | _ => 0

abbrev bufTy : (tb : Table) → Fin (tcTables nBuf tb) → BufTy
  | .hbm, ⟨0, _⟩ => ⟨S2x1536x1920, .i8⟩
  | .hbm, ⟨1, _⟩ => ⟨S2x1536, .f32⟩
  | .hbm, ⟨2, _⟩ => ⟨S1920x1856, .i8⟩
  | .hbm, ⟨3, _⟩ => ⟨S15x3712, .i8⟩
  | .hbm, ⟨4, _⟩ => ⟨S15x3712, .i8⟩
  | .hbm, ⟨5, _⟩ => ⟨S3712, .f32⟩
  | .hbm, ⟨6, _⟩ => ⟨S2x1536x1920, .i32⟩
  | .hbm, ⟨7, _⟩ => ⟨S2x1536x1920, .bf16⟩
  | .hbm, ⟨8, _⟩ => ⟨S1920x1856, .i32⟩
  | .hbm, ⟨9, _⟩ => ⟨S_, .i32⟩
  | .hbm, ⟨10, _⟩ => ⟨S1920x1856, .i32⟩
  | .hbm, ⟨11, _⟩ => ⟨S1920x1856, .i32⟩
  | .hbm, ⟨12, _⟩ => ⟨S_, .i32⟩
  | .hbm, ⟨13, _⟩ => ⟨S1920x1856, .i32⟩
  | .hbm, ⟨14, _⟩ => ⟨S1920x1856, .i32⟩
  | .hbm, ⟨15, _⟩ => ⟨S15x1856, .i8⟩
  | .hbm, ⟨16, _⟩ => ⟨S15x1856, .i8⟩
  | .hbm, ⟨17, _⟩ => ⟨S1920x1856, .bf16⟩
  | .hbm, ⟨18, _⟩ => ⟨S15x128x1856, .bf16⟩
  | .hbm, ⟨19, _⟩ => ⟨S15x1856, .i32⟩
  | .hbm, ⟨20, _⟩ => ⟨S15x1856, .bf16⟩
  | .hbm, ⟨21, _⟩ => ⟨S15x1x1856, .bf16⟩
  | .hbm, ⟨22, _⟩ => ⟨S15x128x1856, .bf16⟩
  | .hbm, ⟨23, _⟩ => ⟨S15x128x1856, .bf16⟩
  | .hbm, ⟨24, _⟩ => ⟨S15x1856, .i32⟩
  | .hbm, ⟨25, _⟩ => ⟨S15x1856, .bf16⟩
  | .hbm, ⟨26, _⟩ => ⟨S15x1x1856, .bf16⟩
  | .hbm, ⟨27, _⟩ => ⟨S15x128x1856, .bf16⟩
  | .hbm, ⟨28, _⟩ => ⟨S15x128x1856, .bf16⟩
  | .hbm, ⟨29, _⟩ => ⟨S1920x1856, .bf16⟩
  | .hbm, ⟨30, _⟩ => ⟨S15x1856, .i8⟩
  | .hbm, ⟨31, _⟩ => ⟨S15x1856, .i8⟩
  | .hbm, ⟨32, _⟩ => ⟨S1920x1856, .bf16⟩
  | .hbm, ⟨33, _⟩ => ⟨S15x128x1856, .bf16⟩
  | .hbm, ⟨34, _⟩ => ⟨S15x1856, .i32⟩
  | .hbm, ⟨35, _⟩ => ⟨S15x1856, .bf16⟩
  | .hbm, ⟨36, _⟩ => ⟨S15x1x1856, .bf16⟩
  | .hbm, ⟨37, _⟩ => ⟨S15x128x1856, .bf16⟩
  | .hbm, ⟨38, _⟩ => ⟨S15x128x1856, .bf16⟩
  | .hbm, ⟨39, _⟩ => ⟨S15x1856, .i32⟩
  | .hbm, ⟨40, _⟩ => ⟨S15x1856, .bf16⟩
  | .hbm, ⟨41, _⟩ => ⟨S15x1x1856, .bf16⟩
  | .hbm, ⟨42, _⟩ => ⟨S15x128x1856, .bf16⟩
  | .hbm, ⟨43, _⟩ => ⟨S15x128x1856, .bf16⟩
  | .hbm, ⟨44, _⟩ => ⟨S1920x1856, .bf16⟩
  | .hbm, ⟨45, _⟩ => ⟨S2x1536x1856, .f32⟩
  | .hbm, ⟨46, _⟩ => ⟨S2x1536x1856, .f32⟩
  | .hbm, ⟨47, _⟩ => ⟨S2x1536x3712, .f32⟩
  | .hbm, ⟨48, _⟩ => ⟨S2x1536x1, .f32⟩
  | .hbm, ⟨49, _⟩ => ⟨S2x1536x3712, .f32⟩
  | .hbm, ⟨50, _⟩ => ⟨S2x1536x3712, .f32⟩
  | .hbm, ⟨51, _⟩ => ⟨S1x1x3712, .f32⟩
  | .hbm, ⟨52, _⟩ => ⟨S2x1536x3712, .f32⟩
  | .hbm, ⟨53, _⟩ => ⟨S2x1536x3712, .f32⟩
  | .hbm, ⟨54, _⟩ => ⟨S2x1536x3712, .bf16⟩
  | .hbm, ⟨55, _⟩ => ⟨S3072x3712, .bf16⟩
  | _, _ => ⟨S2x1536x1920, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Proof.Nibble.lean ====
/-
  Hand-written, untrusted. THE FOUR-BIT CODES, AS WORDS. A byte of the packed weight holds two codes: the low four bits belong to a
  column of the first half of the result, the high four bits to the same column of the second half. The kernel unpacks four bytes
  at a time (`bitcast` to 32-bit words, one mask, one shift, `bitcast` back), the reference one byte at a time, widened to 32 bits.
  This module shows that both read the same natural numbers, `b mod 16` and `b / 16`. Nothing here mentions a program.
-/
module

public import Idealize.ShloMosaic.Lib.BitcastFour
public import Idealize.ShloMosaic.Lib.Pointwise
public import Mathlib.Tactic.IntervalCases

@[expose] public section

namespace Cert.Proof.Nibble

open Idealize.ShloMosaic

/-! ## One byte -/

/-- The low four bits of a byte, as a signed byte, are the number `b mod 16`. -/
theorem toInt_low (b : BitVec 8) : (b &&& 15#8).toInt = ((b.toNat % 16 : ℕ) : ℤ) := by
  revert b; decide

/-- The high four bits of a byte, moved down, as a signed byte, are the number `b / 16`. -/
theorem toInt_high (b : BitVec 8) : (b >>> 4).toInt = ((b.toNat / 16 : ℕ) : ℤ) := by
  revert b; decide

/-- A signed byte widened to a word by its sign is the same integer. -/
theorem toInt_signExtend (b : BitVec 8) : (b.signExtend 32).toInt = b.toInt := by revert b; decide

/-- A byte widened with zeros to 32 bits is, read as a signed word, the byte's own number. -/
theorem toInt_wide (b : BitVec 8) : (b.setWidth 32).toInt = ((b.toNat : ℕ) : ℤ) := by
  revert b; decide

/-- The low four bits of the widened byte are the number `b mod 16`. -/
theorem toInt_wide_low (b : BitVec 8) : (IntOp.andi (b.setWidth 32) 15#32).toInt = ((b.toNat % 16 : ℕ) : ℤ) := by
  revert b; decide

/-- The widened byte shifted right by four is the number `b / 16`: its sign bit is clear, so the arithmetic shift is the logical one. -/
theorem toInt_wide_high (b : BitVec 8) : (IntOp.shrsi .host (b.setWidth 32) 4#32).toInt = ((b.toNat / 16 : ℕ) : ℤ) := by
  revert b; decide

/-! ## Four bytes in a word -/

/-- The mask that keeps the low four bits of each byte of a word, read at a bit. -/
theorem mask_getLsbD (q : Nat) (hq : q < 32) : (252645135#32 : BitVec 32).getLsbD q = decide (q % 8 < 4) := by
  interval_cases q <;> rfl

/-- Thirty-two-bit words read as bytes: bit `q` of byte row `p` of a lane is bit `8 · (p mod 4) + q` of word row `p / 4` of that lane. -/
theorem bytes_of_words {R r n : Nat} (y : (⟨2, ![r, n]⟩ : Shape).Idx → BitVec 32)
    (h : (⟨2, ![r, n]⟩ : Shape).Bitcasts 32 ⟨2, ![R, n]⟩ 8) (p : Fin R) (l : Fin n) (a : Fin r) (ha : a.val = p.val / 4)
    (q : Nat) (hq : q < 8) :
    (bitcast ⟨2, ![R, n]⟩ 8 y h (ix2 p l)).getLsbD q = (y (ix2 a l)).getLsbD (8 * (p.val % 4) + q) := by
  rw [bitcast_getLsbD y h _ q hq (by decide)]
  have hrow : (⟨2, ![R, n]⟩ : Shape).row (ix2 p l) = p.val := rfl
  have e1 : (p.val * 8 + q) / 32 = p.val / 4 := by omega
  have e2 : (p.val * 8 + q) % 32 = 8 * (p.val % 4) + q := by omega
  simp only [hrow, e2]
  congr 2
  funext c
  match c with
  | ⟨0, _⟩ => exact Fin.ext ((h.srcIdx_row _ _ _ ⟨0, Nat.zero_lt_two⟩ rfl).trans (e1.trans ha.symm))
  | ⟨1, _⟩ => exact Fin.ext (h.srcIdx_other _ _ _ ⟨1, Nat.one_lt_two⟩ (by show ¬ 1 + 2 = 2; omega))

/-- Bytes read as thirty-two-bit words: bit `q` of word row `a` of a lane is bit `q mod 8` of byte row `4a + q / 8` of that lane. -/
theorem words_of_bytes {R r n : Nat} (x : (⟨2, ![R, n]⟩ : Shape).Idx → BitVec 8)
    (h : (⟨2, ![R, n]⟩ : Shape).Bitcasts 8 ⟨2, ![r, n]⟩ 32) (a : Fin r) (l : Fin n) (q : Nat) (hq : q < 32) (p : Fin R)
    (hp : p.val = 4 * a.val + q / 8) :
    (bitcast ⟨2, ![r, n]⟩ 32 x h (ix2 a l)).getLsbD q = (x (ix2 p l)).getLsbD (q % 8) := by
  rw [bitcast_8_32_getLsbD x h _ q hq]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The words of a byte array with the high four bits of every byte cleared: byte `p mod 4` of word `p / 4` of a lane holds the low
    four bits of byte `p`. -/
theorem low_bit {R r n : Nat} (x : (⟨2, ![R, n]⟩ : Shape).Idx → BitVec 8)
    (h : (⟨2, ![R, n]⟩ : Shape).Bitcasts 8 ⟨2, ![r, n]⟩ 32) (p : Fin R) (l : Fin n) (a : Fin r) (ha : a.val = p.val / 4)
    (q : Nat) (hq : q < 8) :
    (IntOp.andi (bitcast ⟨2, ![r, n]⟩ 32 x h (ix2 a l)) 252645135#32).getLsbD (8 * (p.val % 4) + q)
      = (x (ix2 p l) &&& 15#8).getLsbD q := by
  have hm : (15#8 : BitVec 8).getLsbD q = decide (q < 4) := by interval_cases q <;> rfl
  have e1 : (8 * (p.val % 4) + q) % 8 = q := by omega
  rw [IntOp.andi, BitVec.getLsbD_and, BitVec.getLsbD_and, mask_getLsbD _ (by omega), hm,
    words_of_bytes x h a l _ (by omega) p (by omega), e1]

/-- The same words shifted right by four and masked: byte `p mod 4` of word `p / 4` of a lane holds the high four bits of byte `p`.
    The four bits that the shift brings in from the next byte up are the ones the mask clears. -/
theorem high_bit {R r n : Nat} (x : (⟨2, ![R, n]⟩ : Shape).Idx → BitVec 8)
    (h : (⟨2, ![R, n]⟩ : Shape).Bitcasts 8 ⟨2, ![r, n]⟩ 32) (p : Fin R) (l : Fin n) (a : Fin r) (ha : a.val = p.val / 4)
    (q : Nat) (hq : q < 8) :
    (IntOp.andi (IntOp.shrui .vector (bitcast ⟨2, ![r, n]⟩ 32 x h (ix2 a l)) 4#32) 252645135#32).getLsbD (8 * (p.val % 4) + q)
      = (x (ix2 p l) >>> 4).getLsbD q := by
  have hs : ∀ w : BitVec 32, IntOp.shrui .vector w 4#32 = w >>> 4 := fun w => rfl
  rw [IntOp.andi, BitVec.getLsbD_and, mask_getLsbD _ (by omega), hs, BitVec.getLsbD_ushiftRight, BitVec.getLsbD_ushiftRight]
  have e1 : (8 * (p.val % 4) + q) % 8 = q := by omega
  rw [e1]
  by_cases h4 : q < 4
  · rw [words_of_bytes x h a l _ (by omega) p (by omega), show (4 + (8 * (p.val % 4) + q)) % 8 = 4 + q by omega]
    simp only [h4, decide_true, Bool.and_true]
  · rw [BitVec.getLsbD_of_ge (x (ix2 p l)) (4 + q) (by omega)]
    simp only [h4, decide_false, Bool.and_false]

/-- THE UNPACKING, four bytes at a time: the words masked for the left half of the columns, shifted and masked for the right half, and
    read back as bytes. -/
def unpack (x : (⟨2, ![128, 1856]⟩ : Shape).Idx → BitVec 8) (h : (⟨2, ![128, 1856]⟩ : Shape).Bitcasts 8 ⟨2, ![32, 1856]⟩ 32)
    (hc : Shape.Concatenates [⟨2, ![32, 1856]⟩, ⟨2, ![32, 1856]⟩] (⟨2, ![32, 3712]⟩ : Shape) 1)
    (h' : (⟨2, ![32, 3712]⟩ : Shape).Bitcasts 32 ⟨2, ![128, 3712]⟩ 8) : IVec ⟨2, ![128, 3712]⟩ 8 :=
  bitcast ⟨2, ![128, 3712]⟩ 8 (concatenate ⟨2, ![32, 3712]⟩ 1
    [⟨⟨2, ![32, 1856]⟩, andi (bitcast ⟨2, ![32, 1856]⟩ 32 x h) (broadcast ⟨2, ![32, 1856]⟩ 252645135#32)⟩,
     ⟨⟨2, ![32, 1856]⟩, andi (shrui (bitcast ⟨2, ![32, 1856]⟩ 32 x h) (broadcast ⟨2, ![32, 1856]⟩ 4#32))
        (broadcast ⟨2, ![32, 1856]⟩ 252645135#32)⟩] hc) h'

variable (x : (⟨2, ![128, 1856]⟩ : Shape).Idx → BitVec 8) (h : (⟨2, ![128, 1856]⟩ : Shape).Bitcasts 8 ⟨2, ![32, 1856]⟩ 32)
  (hc : Shape.Concatenates [⟨2, ![32, 1856]⟩, ⟨2, ![32, 1856]⟩] (⟨2, ![32, 3712]⟩ : Shape) 1)
  (h' : (⟨2, ![32, 3712]⟩ : Shape).Bitcasts 32 ⟨2, ![128, 3712]⟩ 8) (p : Fin 128) (n : Fin 3712)

/-- Column `l` of the left half holds the low four bits of the byte in that column, … -/
theorem unpack_left (hn : n.val < 1856) : unpack x h hc h' (ix2 p n) = x (ix2 p ⟨n.val, hn⟩) &&& 15#8 := by
  apply BitVec.eq_of_getLsbD_eq
  intro q hq
  unfold unpack
  rw [bytes_of_words _ h' p n ⟨p.val / 4, by omega⟩ rfl q hq]
  pointwise
  rw [dif_pos hn]
  exact low_bit x h p ⟨n.val, hn⟩ ⟨p.val / 4, by omega⟩ rfl q hq

/-- … and column `1856 + l`, in the right half, holds the high four bits of the byte in column `l`. -/
theorem unpack_right (hn : ¬ n.val < 1856) : unpack x h hc h' (ix2 p n) = x (ix2 p ⟨n.val - 1856, by omega⟩) >>> 4 := by
  apply BitVec.eq_of_getLsbD_eq
  intro q hq
  unfold unpack
  rw [bytes_of_words _ h' p n ⟨p.val / 4, by omega⟩ rfl q hq]
  pointwise
  rw [dif_neg hn]
  exact high_bit x h p ⟨n.val - 1856, by omega⟩ ⟨p.val / 4, by omega⟩ rfl q hq

/-- So, as a signed byte, every element of the unpacked array is a natural number below sixteen: the low or the high half of its byte. -/
theorem toInt_unpack : (unpack x h hc h' (ix2 p n)).toInt
    = (((if hn : n.val < 1856 then (x (ix2 p ⟨n.val, hn⟩)).toNat % 16 else (x (ix2 p ⟨n.val - 1856, by omega⟩)).toNat / 16) : ℕ) : ℤ) := by
  by_cases hn : n.val < 1856
  · rw [unpack_left x h hc h' p n hn, dif_pos hn, toInt_low]
  · rw [unpack_right x h hc h' p n hn, dif_neg hn, toInt_high]

end Cert.Proof.Nibble
-- ==== Proof.Spec.lean ====
/-
  Hand-written, untrusted. WHAT BOTH PROGRAMS COMPUTE, as a function of the six arguments on the extended reals: a linear layer whose
  weight is given by four-bit codes with a scale and a zero point per group of 128 rows and column. Nothing here mentions a program;
  the two halves of the proof each show that one program's result array is `linear` of its arguments.
-/
module

public import Idealize.ShloMosaic.PureOps.Ideal
public import Idealize.ShloMosaic.Lib.Pointwise

@[expose] public section

noncomputable section

namespace Cert.Proof.Spec

open Idealize.ShloMosaic

/-- The four-bit code of weight row `k`, column `n`, as a natural number: the low half of the byte for a column of the left half of the
    result, the high half of the byte `1856` columns to the left for a column of the right half. -/
def code (P : (⟨2, ![1920, 1856]⟩ : Shape).Idx → BitVec 8) (k : Fin 1920) (n : Fin 3712) : ℕ :=
  if h : n.val < 1856 then (P (ix2 k ⟨n.val, h⟩)).toNat % 16 else (P (ix2 k ⟨n.val - 1856, by omega⟩)).toNat / 16

/-- An integer as an element of the extended reals. -/
def real (z : ℤ) : EReal := ((z : ℝ) : EReal)

/-- The dequantized weight at row `k`, column `n`: the code times the scale of the row's group, minus the group's zero term. -/
def weight (P : (⟨2, ![1920, 1856]⟩ : Shape).Idx → BitVec 8) (S Z : (⟨2, ![15, 3712]⟩ : Shape).Idx → BitVec 8)
    (k : Fin 1920) (n : Fin 3712) : EReal :=
  real (code P k n : ℕ) * real ((S (ix2 ⟨k.val / 128, by omega⟩ n)).toNat : ℕ)
    - real ((Z (ix2 ⟨k.val / 128, by omega⟩ n)).toNat : ℕ)

/-- The result at token `t` (the tokens of the two batches one after the other) and output column `n`: the sum over the weight's rows of
    the activation code times the dequantized weight, times the token's scale, times the column's scale. -/
def linear (X : (⟨3, ![2, 1536, 1920]⟩ : Shape).Idx → BitVec 8) (xs : (⟨2, ![2, 1536]⟩ : Shape).Idx → EReal)
    (P : (⟨2, ![1920, 1856]⟩ : Shape).Idx → BitVec 8) (S Z : (⟨2, ![15, 3712]⟩ : Shape).Idx → BitVec 8)
    (cs : (⟨1, ![3712]⟩ : Shape).Idx → EReal) (t : Fin 3072) (n : Fin 3712) : EReal :=
  (∑ k : Fin 1920, real (X (ix3 ⟨t.val / 1536, by omega⟩ ⟨t.val % 1536, by omega⟩ k)).toInt * weight P S Z k n)
    * xs (ix2 ⟨t.val / 1536, by omega⟩ ⟨t.val % 1536, by omega⟩) * cs (ix1 n)

end Cert.Proof.Spec

end
-- ==== Proof.Dequant.lean ====
/-
  Hand-written, untrusted. ONE GROUP OF THE WEIGHT, DEQUANTIZED BY THE KERNEL. The kernel treats its fifteen groups of 128 rows by fifteen
  copies of the same sequence of vector operations, which the skeleton cuts into payloads in several ways. `group` is that sequence
  once, with the group's row of the scales as a parameter; `group_apply` reads it at an index; `group_restricts` says that, on the rows of
  group `g`, it is the weight matrix `W`.
-/
module

public import proofs.«01_k».proof.Proof.Gen.KernelIdeal.Skeleton
public import proofs.«01_k».proof.Proof.Nibble
public import proofs.«01_k».proof.Proof.Spec
public import Idealize.ShloMosaic.Lib.Pipeline.FrameBody

@[expose] public section

set_option maxRecDepth 16384

noncomputable section

namespace Cert.Proof.Dequant

open Idealize.ShloMosaic Cert.KernelIdeal Cert.KernelIdeal.Gen Cert.Proof.Spec

/-- The kernel's operations on one group of 128 rows: unpack the codes, multiply by the group's row of the scales, subtract its row of
    the zero terms. `off` is where that row starts. -/
def group (off : Fin 2 → Nat) (hs : S15x3712.Slices off S1x3712) (S Z : Vec Ideal S15x3712 .i8) (P : Vec Ideal S128x1856 .i8) :
    FVec Ideal S128x3712 .bf16 :=
  shapeCast S128x3712 (subf (mulf
      (sitofp .bf16 (Nibble.unpack P bitcasts_S128x1856_w8_S32x1856_w32 concatenates_S32x1856_S32x1856_S32x3712_d1
        bitcasts_S32x3712_w32_S128x3712_w8))
      (broadcastTo S128x3712 (extractStridedSlice S1x3712 off (k0_pay3 S) hs) broadcasts_S1x3712_S128x3712))
      (broadcastTo S128x3712 (extractStridedSlice S1x3712 off (k0_pay4 Z) hs) broadcasts_S1x3712_S128x3712))
    shapeCasts_S128x3712_S128x3712

/-- The whole dequantized weight, as the contents of the buffer that holds it. -/
def W (P : Vec Ideal S1920x1856 .i8) (S Z : Vec Ideal S15x3712 .i8) : Vec Ideal S1920x3712 .bf16 := fun y => weight P S Z (y 0) (y 1)

/-- A group read at an index: the code of the byte there, times the scale of the group's row, minus its zero term. -/
theorem group_apply (g : Nat) (hg : g < 15) (hs : S15x3712.Slices ![g, 0] S1x3712) (S Z : Vec Ideal S15x3712 .i8)
    (P : Vec Ideal S128x1856 .i8) (p : Fin 128) (n : Fin 3712) :
    group ![g, 0] hs S Z P (ix2 p n)
      = real (((if h : n.val < 1856 then (P (ix2 p ⟨n.val, h⟩)).toNat % 16 else (P (ix2 p ⟨n.val - 1856, by omega⟩)).toNat / 16) : ℕ) : ℤ)
          * real ((S (ix2 ⟨g, hg⟩ n)).toNat : ℕ) - real ((Z (ix2 ⟨g, hg⟩ n)).toNat : ℕ) := by
  unfold group k0_pay3 k0_pay4
  rw [← Nibble.toInt_unpack P bitcasts_S128x1856_w8_S32x1856_w32 concatenates_S32x1856_S32x1856_S32x3712_d1
    bitcasts_S32x3712_w32_S128x3712_w8 p n, ← Nibble.toInt_wide, ← Nibble.toInt_wide]
  pointwise
  rfl

/-- THE ROWS OF GROUP `g`: the group's operations, on the rows of the packed codes that start at row `128 g`, give the weight's rows that start
    there. -/
theorem group_restricts (g : Nat) (hg : g < 15) (hs : S15x3712.Slices ![g, 0] S1x3712)
    (inb : ∀ a, (![128 * g, 0] : Fin 2 → Nat) a + S128x1856.size a ≤ S1920x1856.size a)
    (inb' : ∀ a, (![128 * g, 0] : Fin 2 → Nat) a + S128x3712.size a ≤ S1920x3712.size a)
    (S Z : Vec Ideal S15x3712 .i8) (P : Vec Ideal S1920x1856 .i8) (x : S128x3712.Idx) :
    group ![g, 0] hs S Z (View.ld P (Rect.unit ![128 * g, 0] S128x1856.size inb)) x
      = W P S Z ((Rect.unit (s := S1920x3712) ![128 * g, 0] S128x3712.size inb').emb x) := by
  obtain ⟨p, n, rfl⟩ : ∃ (p : Fin 128) (n : Fin 3712), x = ix2 p n := ⟨x 0, x 1, eq_ix2 x⟩
  rw [group_apply g hg]
  have hp := p.isLt
  have hld : ∀ l : Fin 1856, View.ld P (Rect.unit ![128 * g, 0] S128x1856.size inb) (ix2 p l) = P (ix2 ⟨128 * g + p.val, by omega⟩ l) := by
    intro l
    unfold View.ld
    congr 1
    funext a
    match a with
    | ⟨0, _⟩ => exact Fin.ext (by show 128 * g + 1 * p.val = 128 * g + p.val; omega)
    | ⟨1, _⟩ => exact Fin.ext (by show 0 + 1 * l.val = l.val; omega)
  have h0 : (Rect.unit (s := S1920x3712) ![128 * g, 0] S128x3712.size inb').emb (ix2 p n) 0 = (⟨128 * g + p.val, by omega⟩ : Fin 1920) :=
    Fin.ext (by show 128 * g + 1 * p.val = 128 * g + p.val; omega)
  have h1 : (Rect.unit (s := S1920x3712) ![128 * g, 0] S128x3712.size inb').emb (ix2 p n) 1 = n :=
    Fin.ext (by show 0 + 1 * n.val = n.val; omega)
  have hq : (⟨g, hg⟩ : Fin 15) = ⟨(128 * g + p.val) / 128, by omega⟩ := Fin.ext (by show g = (128 * g + p.val) / 128; omega)
  unfold W
  rw [h0, h1]
  simp only [weight, code, hld, hq]

end Cert.Proof.Dequant

end
-- ==== Proof.Body.lean ====
/-
  Hand-written, untrusted. WHAT ONE RUN OF THE KERNEL'S BODY LEAVES. At the first grid point the body fills its scratch, group by group,
  with the dequantized weight and then multiplies by it; at every other point it multiplies by whatever the scratch holds. Both are read
  off the pieces that the generated run found.
-/
module

public import proofs.«01_k».proof.Proof.Gen.KernelIdeal.Value
public import proofs.«01_k».proof.Proof.Dequant

@[expose] public section

set_option maxRecDepth 16384

noncomputable section

namespace Cert.Proof.Body

open Idealize.ShloMosaic Idealize.ShloMosaic.Tactic Cert.KernelIdeal Cert.KernelIdeal.Gen Cert.Proof.Dequant

/-- The offset `[0, 0]` is the zero offset. -/
theorem off_zero : (![0, 0] : Fin 2 → Nat) = fun _ => 0 := funext fun a => by fin_cases a <;> rfl

/-- Group `g`'s hundred and twenty-eight rows lie inside the weight, … -/
theorem rows_inb (g : Fin 15) : ∀ a, (![128 * g.val, 0] : Fin 2 → Nat) a + S128x3712.size a ≤ S1920x3712.size a := by
  have := g.isLt
  intro a; fin_cases a
  · show 128 * g.val + 128 ≤ 1920; omega
  · show 0 + 3712 ≤ 3712; omega

/-- … its packed bytes inside the packed weight, … -/
theorem bytes_inb (g : Fin 15) : ∀ a, (![128 * g.val, 0] : Fin 2 → Nat) a + S128x1856.size a ≤ S1920x1856.size a := by
  have := g.isLt
  intro a; fin_cases a
  · show 128 * g.val + 128 ≤ 1920; omega
  · show 0 + 1856 ≤ 1856; omega

/-- … and its row of scales inside the scales. -/
theorem row_slices (g : Fin 15) : S15x3712.Slices ![g.val, 0] S1x3712 := by
  revert g; decide

/-- The piece that the store of group `g` leaves in the scratch. -/
def piece (P : Vec Ideal S1920x1856 .i8) (S Z : Vec Ideal S15x3712 .i8) (g : Fin 15) : View.Piece (Elt Ideal) S1920x3712 .bf16 :=
  ⟨Rect.unit ![128 * g.val, 0] S128x3712.size (rows_inb g),
    group ![g.val, 0] (row_slices g) S Z (View.ld P (Rect.unit ![128 * g.val, 0] S128x1856.size (bytes_inb g)))⟩

/-- The pieces that a first point's fifteen stores leave there, last group first. -/
def pieces (P : Vec Ideal S1920x1856 .i8) (S Z : Vec Ideal S15x3712 .i8) : List (View.Piece (Elt Ideal) S1920x3712 .bf16) :=
  [14, 13, 12, 11, 10, 9, 8, 7, 6, 5, 4, 3, 2, 1, 0].map (piece P S Z)

/-- Every one of them holds the weight's rows where it lies. -/
theorem pieces_restrict (P : Vec Ideal S1920x1856 .i8) (S Z : Vec Ideal S15x3712 .i8) :
    ∀ p ∈ pieces P S Z, ∀ x : p.1.shape.Idx, p.2 x = W P S Z (p.1.emb x) := by
  intro p hp
  obtain ⟨g, -, rfl⟩ := List.mem_map.mp hp
  exact group_restricts g.val g.isLt (row_slices g) (bytes_inb g) (rows_inb g) S Z P

section
variable (c : Dev nD) (i : grid0.Coords) (arg1 : Memref sig .tc .vmem S512x1920 .i8) (harg1 : arg1.IsWhole)
  (arg2 : Memref sig .tc .vmem S512x1 .f32) (harg2 : arg2.IsWhole) (arg3 : Memref sig .tc .vmem S1920x1856 .i8) (harg3 : arg3.IsWhole)
  (arg4 : Memref sig .tc .vmem S15x3712 .i8) (harg4 : arg4.IsWhole) (arg5 : Memref sig .tc .vmem S15x3712 .i8) (harg5 : arg5.IsWhole)
  (arg6 : Memref sig .tc .vmem S1x3712 .f32) (harg6 : arg6.IsWhole) (arg7 : Memref sig .tc .vmem S512x3712 .bf16) (harg7 : arg7.IsWhole)
  (arg8 : Memref sig .tc .vmem S1920x3712 .bf16) (harg8 : arg8.IsWhole)
  (x0 : Vec Ideal S512x1920 .i8) (x1 : Vec Ideal S512x1 .f32) (x2 : Vec Ideal S1920x1856 .i8) (x3 x4 : Vec Ideal S15x3712 .i8)
  (x5 : Vec Ideal S1x3712 .f32)

/-- The run's pieces for the scratch at a first point are `pieces` of the point's blocks. -/
theorem run_pieces (hc0 : cond0_0 i) :
    (kernelRun0_A (F := Ideal) c i arg1 harg1 arg2 harg2 arg3 harg3 arg4 harg4 arg5 harg5 arg6 harg6 arg7 harg7 arg8 harg8 hc0
      x0 x1 x2 x3 x4 x5).2.1 = pieces x2 x3 x4 := by
  unfold kernelRun0_A; dsimp only
  sl_unfold_words
  simp only [View.readAt_eq_ld, Memref.IsWhole.read_unread]
  rw [View.ld_unit_zero (S := S15x3712) off_zero inb_S15x3712_S15x3712_0_0 x3, View.ld_unit_zero (S := S15x3712) off_zero inb_S15x3712_S15x3712_0_0 x4]
  rfl

/-- A FIRST POINT leaves the dequantized weight in the scratch, … -/
theorem scratch_first (hc0 : cond0_0 i) :
    sout0_A_0 (F := Ideal) c i arg1 harg1 arg2 harg2 arg3 harg3 arg4 harg4 arg5 harg5 arg6 harg6 arg7 harg7 arg8 harg8 hc0 x0 x1 x2 x3 x4 x5
      = W x2 x3 x4 := by
  have hcov := scover0_A_0 (F := Ideal) c i arg1 harg1 arg2 harg2 arg3 harg3 arg4 harg4 arg5 harg5 arg6 harg6 arg7 harg7 arg8 harg8 hc0
    x0 x1 x2 x3 x4 x5
  unfold sout0_A_0
  rw [View.read_writes_eq_canon _ _ _ hcov]
  rw [run_pieces] at hcov ⊢
  exact funext fun y => View.canon_apply_of_pieces (W x2 x3 x4) _ (pieces_restrict x2 x3 x4) y (hcov y)

/-- … and in its block of the result the product with that weight. -/
theorem out_first (hc0 : cond0_0 i) :
    out0_A_6 (F := Ideal) c i arg1 harg1 arg2 harg2 arg3 harg3 arg4 harg4 arg5 harg5 arg6 harg6 arg7 harg7 arg8 harg8 hc0 x0 x1 x2 x3 x4 x5
      = k0_pay2 x0 (W x2 x3 x4) x1 x5 := by
  have hs := scratch_first c i arg1 harg1 arg2 harg2 arg3 harg3 arg4 harg4 arg5 harg5 arg6 harg6 arg7 harg7 arg8 harg8 x0 x1 x2 x3 x4 x5 hc0
  have hcov := scover0_A_0 (F := Ideal) c i arg1 harg1 arg2 harg2 arg3 harg3 arg4 harg4 arg5 harg5 arg6 harg6 arg7 harg7 arg8 harg8 hc0
    x0 x1 x2 x3 x4 x5
  unfold sout0_A_0 at hs
  rw [View.read_writes_eq_canon _ _ _ hcov, run_pieces] at hs
  unfold out0_A_6
  rw [View.read_writes_eq_canon _ _ _ (cover0_A_6 c i arg1 harg1 arg2 harg2 arg3 harg3 arg4 harg4 arg5 harg5 arg6 harg6 arg7 harg7 arg8 harg8
    hc0 x0 x1 x2 x3 x4 x5)]
  unfold kernelRun0_A; dsimp only
  sl_unfold_words
  simp only [View.readAt_eq_ld, Memref.IsWhole.read_unread]
  rw [View.canon_unit_zero (S := S512x3712) off_zero, View.ld_unit_zero (S := S512x1920) off_zero, View.ld_unit_zero (S := S512x1) off_zero,
    View.ld_unit_zero (S := S1x3712) off_zero, View.readCov_eq_canon',
    View.ld_unit_zero (S := S15x3712) off_zero inb_S15x3712_S15x3712_0_0 x3, View.ld_unit_zero (S := S15x3712) off_zero inb_S15x3712_S15x3712_0_0 x4]
  refine congrArg (fun w => k0_pay2 x0 w x1 x5) (Eq.trans ?_ hs)
  change (fun j => View.canon (pieces x2 x3 x4) ((Rect.unit ![0, 0] S1920x3712.size inb_S1920x3712_S1920x3712_0_0).toLoadRect.idx j)) = _
  generalize View.canon (pieces x2 x3 x4) = w
  exact View.ld_unit_zero (S := S1920x3712) off_zero inb_S1920x3712_S1920x3712_0_0 w

/-- ANY OTHER POINT leaves in its block of the result the product with what the scratch holds. -/
theorem out_later (hc0 : ¬ cond0_0 i) (xs0 : Vec Ideal S1920x3712 .bf16) :
    out0_B_6 (F := Ideal) c i arg1 harg1 arg2 harg2 arg3 harg3 arg4 harg4 arg5 harg5 arg6 harg6 arg7 harg7 arg8 harg8 hc0 x0 x1 x2 x3 x4 x5 xs0
      = k0_pay2 x0 xs0 x1 x5 := by
  unfold out0_B_6
  rw [View.read_writes_eq_canon _ _ _ (cover0_B_6 c i arg1 harg1 arg2 harg2 arg3 harg3 arg4 harg4 arg5 harg5 arg6 harg6 arg7 harg7 arg8 harg8
    hc0 x0 x1 x2 x3 x4 x5 xs0)]
  unfold kernelRun0_B; dsimp only
  sl_unfold_words
  simp only [View.readAt_eq_ld, Memref.IsWhole.read_unread]
  rw [View.canon_unit_zero (S := S512x3712) off_zero, View.ld_unit_zero (S := S512x1920) off_zero, View.ld_unit_zero (S := S512x1) off_zero,
    View.ld_unit_zero (S := S1x3712) off_zero, View.ld_unit_zero (S := S1920x3712) off_zero]

end

end Cert.Proof.Body

end
-- ==== Proof.Fold.lean ====
/-
  Hand-written, untrusted. THE KERNEL'S RESULT ARRAY AS ONE FORMULA. The six points of the grid each take a block of 512 tokens; the packed
  weight, its scales and its zero terms are staged whole at every point. So the scratch, filled at the first point, holds the dequantized
  weight at all six, and the result at a token and an output is `Spec.linear` of the arguments there.
-/
module

public import proofs.«01_k».proof.Proof.Body
public import Idealize.ShloMosaic.Lib.Claim

@[expose] public section

set_option maxRecDepth 16384

noncomputable section

namespace Cert.Proof.Fold

open Idealize.ShloMosaic Idealize.ShloMosaic.TcCoe Idealize.SL.Sem Cert.KernelIdeal Cert.KernelIdeal.Gen Cert.KernelIdeal.Value
open Cert.Proof.Dequant Cert.Proof.Body Cert.Proof.Spec

variable (m : (ℓ : Loc nD τ sig) → Buf (Elt Ideal) ℓ) (c : Dev nD)

/-! ## The blocks -/

/-- The block indices that the printed index maps give, decided over the six points: point `t` takes block `t` of the tokens … -/
theorem idx0 : ∀ t : Fin cfg0.N, win0_0.index t (0 : Fin 2) = t.val ∧ win0_0.index t (1 : Fin 2) = 0 :=
  (by decide +kernel : ∀ t : Fin grid0.N, _)

/-- … and of their scales, … -/
theorem idx1 : ∀ t : Fin cfg0.N, win0_1.index t (0 : Fin 2) = t.val ∧ win0_1.index t (1 : Fin 2) = 0 :=
  (by decide +kernel : ∀ t : Fin grid0.N, _)

/-- … and the one block of everything that belongs to the weight. -/
theorem idx_weight : ∀ t : Fin cfg0.N, (win0_2.index t (0 : Fin 2) = 0 ∧ win0_2.index t (1 : Fin 2) = 0)
    ∧ (win0_3.index t (0 : Fin 2) = 0 ∧ win0_3.index t (1 : Fin 2) = 0) ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- The packed weight is staged whole. -/
theorem iblk2 (t : Fin cfg0.N) : iblk m c 2 t = m ((c : Thread nD τ).loc main_arg2) := by
  obtain ⟨⟨e0, e1⟩, -⟩ := idx_weight t
  rw [← V_main_arg2 m c]
  funext j; show V m c main_arg2 (((cfg0.win 2).blk t).view.emb j) = V m c main_arg2 j
  refine congrArg (V m c main_arg2) (funext fun a => Fin.ext ?_)
  match a with
  | ⟨0, _⟩ => show win0_2.index t (0 : Fin 2) * 1920 + 1 * (j 0).val = (j 0).val; omega
  | ⟨1, _⟩ => show win0_2.index t (1 : Fin 2) * 1856 + 1 * (j 1).val = (j 1).val; omega

/-- The scales of the groups are staged whole. -/
theorem iblk3 (t : Fin cfg0.N) : iblk m c 3 t = m ((c : Thread nD τ).loc main_arg3) := by
  obtain ⟨-, ⟨e0, e1⟩, -⟩ := idx_weight t
  rw [← V_main_arg3 m c]
  funext j; show V m c main_arg3 (((cfg0.win 3).blk t).view.emb j) = V m c main_arg3 j
  refine congrArg (V m c main_arg3) (funext fun a => Fin.ext ?_)
  match a with
  | ⟨0, _⟩ => show win0_3.index t (0 : Fin 2) * 15 + 1 * (j 0).val = (j 0).val; omega
  | ⟨1, _⟩ => show win0_3.index t (1 : Fin 2) * 3712 + 1 * (j 1).val = (j 1).val; omega

/-- The zero terms of the groups are staged whole. -/
theorem iblk4 (t : Fin cfg0.N) : iblk m c 4 t = m ((c : Thread nD τ).loc main_arg4) := by
  obtain ⟨-, -, ⟨e0, e1⟩, -⟩ := idx_weight t
  rw [← V_main_arg4 m c]
  funext j; show V m c main_arg4 (((cfg0.win 4).blk t).view.emb j) = V m c main_arg4 j
  refine congrArg (V m c main_arg4) (funext fun a => Fin.ext ?_)
  match a with
  | ⟨0, _⟩ => show win0_4.index t (0 : Fin 2) * 15 + 1 * (j 0).val = (j 0).val; omega
  | ⟨1, _⟩ => show win0_4.index t (1 : Fin 2) * 3712 + 1 * (j 1).val = (j 1).val; omega

/-- Row `r` of point `t`'s block of tokens is token `512 t + r`: batch `(512 t + r) / 1536`, place `(512 t + r) % 1536`. -/
theorem iblk0_apply (t : Fin cfg0.N) (r : Fin 512) (k : Fin 1920) (b : Fin 2) (s : Fin 1536) (h : t.val * 512 + r.val = b.val * 1536 + s.val) :
    iblk m c 0 t (ix2 r k) = m ((c : Thread nD τ).loc main_arg0) (ix3 b s k) := by
  obtain ⟨e0, e1⟩ := idx0 t
  have ht : t.val < 6 := lt_of_lt_of_eq t.isLt (show cfg0.N = 6 from N_0)
  have hr := r.isLt
  have hj : ((cfg0.win 0).blk t).view.emb (ix2 r k) = (ix2 ⟨t.val * 512 + r.val, by omega⟩ k : S3072x1920.Idx) := by
    refine funext fun a => Fin.ext ?_
    match a with
    | ⟨0, _⟩ => show win0_0.index t (0 : Fin 2) * 512 + 1 * r.val = t.val * 512 + r.val; omega
    | ⟨1, _⟩ => show win0_0.index t (1 : Fin 2) * 1920 + 1 * k.val = k.val; omega
  show V m c main_v1 (((cfg0.win 0).blk t).view.emb (ix2 r k)) = _
  rw [hj]
  entry_read
  pointwise
  have hb : b = ⟨(t.val * 512 + r.val) / 1536, by omega⟩ := Fin.ext (by show b.val = (t.val * 512 + r.val) / 1536; have := s.isLt; omega)
  have hs : s = ⟨(t.val * 512 + r.val) % 1536, by omega⟩ := Fin.ext (by show s.val = (t.val * 512 + r.val) % 1536; have := s.isLt; omega)
  exact congrArg (m ((c : Thread nD τ).loc main_arg0)) (congrArg₂ (fun b s => ix3 b s k) hb.symm hs.symm)

/-- Row `r` of point `t`'s block of scales is that token's. -/
theorem iblk1_apply (t : Fin cfg0.N) (r : Fin 512) (b : Fin 2) (s : Fin 1536) (h : t.val * 512 + r.val = b.val * 1536 + s.val) :
    iblk m c 1 t (ix2 r 0) = m ((c : Thread nD τ).loc main_arg1) (ix2 b s) := by
  obtain ⟨e0, e1⟩ := idx1 t
  have ht : t.val < 6 := lt_of_lt_of_eq t.isLt (show cfg0.N = 6 from N_0)
  have hr := r.isLt
  have hj : ((cfg0.win 1).blk t).view.emb (ix2 r 0) = (ix2 ⟨t.val * 512 + r.val, by omega⟩ 0 : S3072x1.Idx) := by
    refine funext fun a => Fin.ext ?_
    match a with
    | ⟨0, _⟩ => show win0_1.index t (0 : Fin 2) * 512 + 1 * r.val = t.val * 512 + r.val; omega
    | ⟨1, _⟩ => show win0_1.index t (1 : Fin 2) * 1 + 1 * 0 = 0; omega
  show V m c main_v2 (((cfg0.win 1).blk t).view.emb (ix2 r 0)) = _
  rw [hj]
  entry_read
  pointwise
  have hb : b = ⟨(t.val * 512 + r.val) / 1536, by omega⟩ := Fin.ext (by show b.val = (t.val * 512 + r.val) / 1536; have := s.isLt; omega)
  have hs : s = ⟨(t.val * 512 + r.val) % 1536, by omega⟩ := Fin.ext (by show s.val = (t.val * 512 + r.val) % 1536; have := s.isLt; omega)
  exact congrArg (m ((c : Thread nD τ).loc main_arg1)) (congrArg₂ (fun b s => ix2 b s) hb.symm hs.symm)

/-- The scales of the outputs are staged whole, as one row. -/
theorem iblk5_apply (t : Fin cfg0.N) (n : Fin 3712) : iblk m c 5 t (ix2 0 n) = m ((c : Thread nD τ).loc main_arg5) (ix1 n) := by
  obtain ⟨-, -, -, ⟨e0, e1⟩⟩ := idx_weight t
  have hj : ((cfg0.win 5).blk t).view.emb (ix2 0 n) = (ix2 0 n : S1x3712.Idx) := by
    refine funext fun a => Fin.ext ?_
    match a with
    | ⟨0, _⟩ => show win0_5.index t (0 : Fin 2) * 1 + 1 * 0 = 0; omega
    | ⟨1, _⟩ => show win0_5.index t (1 : Fin 2) * 3712 + 1 * n.val = n.val; omega
  show V m c main_v0 (((cfg0.win 5).blk t).view.emb (ix2 0 n)) = _
  rw [hj]
  entry_read
  pointwise

/-! ## The grid -/

/-- The scratch holds the dequantized weight after every point: the first fills it and the others leave it. -/
theorem scratch (n : ℕ) (hn : n < cfg0.N) : (outsAt0 m c n hn).2
    = W (m ((c : Thread nD τ).loc main_arg2)) (m ((c : Thread nD τ).loc main_arg3)) (m ((c : Thread nD τ).loc main_arg4)) := by
  induction n with
  | zero =>
    rw [outsAt0_A m c ⟨0, hn⟩ rfl]
    dsimp only
    rw [scratch_first, iblk2, iblk3, iblk4]
  | succ n ih =>
    have h6 : n + 1 < 6 := lt_of_lt_of_eq hn (show cfg0.N = 6 from N_0)
    rw [outsAt0_B m c ⟨n + 1, hn⟩ (by show ¬ (n + 1) % 6 = 0; omega)]
    exact ih (Nat.lt_of_succ_lt hn)

/-- So every point leaves the product of its tokens with that weight, scaled, in its block of the result. -/
theorem out (t : Fin cfg0.N) : (outsAt0 m c t.val t.isLt).1
    = k0_pay2 (iblk m c 0 t) (W (m ((c : Thread nD τ).loc main_arg2)) (m ((c : Thread nD τ).loc main_arg3)) (m ((c : Thread nD τ).loc main_arg4)))
        (iblk m c 1 t) (iblk m c 5 t) := by
  by_cases h0 : t.val % 6 = 0
  · rw [outsAt0_A m c t h0]
    dsimp only
    rw [out_first, iblk2, iblk3, iblk4]
  · rw [outsAt0_B m c t h0]
    dsimp only
    rw [out_later, scratch]

/-- That product at an index: the sum over the input's features, times the token's scale and the output's. -/
theorem product_apply (X : Vec Ideal S512x1920 .i8) (V : Vec Ideal S1920x3712 .bf16) (xs : Vec Ideal S512x1 .f32) (cs : Vec Ideal S1x3712 .f32)
    (r : Fin 512) (n : Fin 3712) : k0_pay2 X V xs cs (ix2 r n)
      = (∑ k : Fin 1920, real (X (ix2 r k)).toInt * V (ix2 k n)) * xs (ix2 r 0) * cs (ix2 0 n) := by
  pointwise [k0_pay2]
  rfl

/-- The row of the result that holds token `t`, as the point that wrote it left it. -/
theorem out_apply (p : ℕ) (hlt : p < cfg0.N) (t : Fin 3072) (n : Fin 3712) (hp : p = t.val / 512) :
    (outsAt0 m c p hlt).1 (ix2 ⟨t.val % 512, Nat.mod_lt _ (by decide)⟩ n)
      = linear (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) t n := by
  have hrow : p * 512 + t.val % 512 = t.val / 1536 * 1536 + t.val % 1536 := by omega
  refine (congrFun (out m c ⟨p, hlt⟩) _).trans ?_
  rw [product_apply, iblk5_apply, iblk1_apply m c ⟨p, hlt⟩ _ ⟨t.val / 1536, by omega⟩ ⟨t.val % 1536, by omega⟩ hrow]
  unfold linear
  refine congrArg₂ (· * ·) (congrArg₂ (· * ·) (Finset.sum_congr rfl fun k _ => ?_) rfl) rfl
  rw [iblk0_apply m c ⟨p, hlt⟩ _ k ⟨t.val / 1536, by omega⟩ ⟨t.val % 1536, by omega⟩ hrow]
  rfl

/-- THE RESULT at a token and an output is `Spec.linear` of the arguments there. -/
theorem result (t : Fin 3072) (n : Fin 3712) : G6 m c (ix2 t n)
    = linear (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) t n := by
  have hp : pt6Of (ix2 t n : S3072x3712.Idx) = t.val / 512 := by
    have := n.isLt
    show 1 * (t.val / 512 - 0) + 1 * (n.val / 3712 - 0) = t.val / 512
    omega
  have hlt : pt6Of (ix2 t n : S3072x3712.Idx) < cfg0.N := by
    have := t.isLt
    rw [hp, show cfg0.N = 6 from N_0]; omega
  have hl : loc6Of (ix2 t n : S3072x3712.Idx) = ix2 ⟨t.val % 512, Nat.mod_lt _ (by decide)⟩ n := by
    have := n.isLt
    refine funext fun a => Fin.ext ?_
    match a with
    | ⟨0, _⟩ => rfl
    | ⟨1, _⟩ => show n.val % 3712 = n.val; omega
  unfold G6
  rw [dif_pos hlt, ← outsAt0_sweep m c _ hlt, hl]
  exact out_apply m c _ hlt t n hp

end Cert.Proof.Fold

end
-- ==== Proof.Reference.lean ====
/-
  Hand-written, untrusted. THE REFERENCE'S RESULT AT AN INDEX. The reference dequantizes the two halves of the weight's columns, multiplies
  the tokens by each, lays the two products side by side and scales them. `half` is one dequantized half; `result` is the whole, with the
  reference's own operations; `result_apply` says that it is `Spec.linear`.
-/
module

public import proofs.«01_k».proof.Proof.Gen.ReferenceIdeal.Run
public import proofs.«01_k».proof.Proof.Nibble
public import proofs.«01_k».proof.Proof.Spec

@[expose] public section

set_option maxRecDepth 16384

noncomputable section

namespace Cert.Proof.Reference

open Idealize.ShloMosaic Cert.ReferenceIdeal Cert.ReferenceIdeal.Gen Cert.Proof.Spec

/-- One half of the dequantized weight, from that half's codes `q`; `off` is where its columns of the scales and zero terms start. -/
def half (off : Fin 2 → Nat) (hs : S15x3712.Slices off S15x1856) (q : IVec S1920x1856 32) (S Z : Vec Ideal S15x3712 .i8) :
    FVec Ideal S1920x1856 .bf16 :=
  shapeCast _ (subf (mulf (shapeCast _ (sitofp .bf16 q) shapeCasts_S1920x1856_S15x128x1856)
      (broadcastInDim S15x128x1856 ![0, 1, 2] bcast_S15x1x1856_S15x128x1856_0_1_2 (broadcastInDim S15x1x1856 ![0, 2]
        bcast_S15x1856_S15x1x1856_0_2 (sitofp .bf16 (extui 32 (extractStridedSlice S15x1856 off S hs) natLt_8_32)))))
      (broadcastInDim S15x128x1856 ![0, 1, 2] bcast_S15x1x1856_S15x128x1856_0_1_2 (broadcastInDim S15x1x1856 ![0, 2]
        bcast_S15x1856_S15x1x1856_0_2 (sitofp .bf16 (extui 32 (extractStridedSlice S15x1856 off Z hs) natLt_8_32)))))
    shapeCasts_S15x128x1856_S1920x1856

/-- The low four bits of every byte, … -/
def low (P : Vec Ideal S1920x1856 .i8) : IVec S1920x1856 32 :=
  andi (extui 32 P natLt_8_32) (broadcastInDim S1920x1856 ![] bcast_S_S1920x1856 (constantI S_ 32 15#32))

/-- … and the high four. -/
def high (P : Vec Ideal S1920x1856 .i8) : IVec S1920x1856 32 :=
  Host.shrsi (extui 32 P natLt_8_32) (broadcastInDim S1920x1856 ![] bcast_S_S1920x1856 (constantI S_ 32 4#32))

/-- The tokens times one half of the weight. -/
def product (X : Vec Ideal S2x1536x1920 .i8) (D : FVec Ideal S1920x1856 .bf16) : FVec Ideal S2x1536x1856 .f32 :=
  Host.dotGeneral dot_S2x1536x1920_S1920x1856_S2x1536x1856_2_0_01_1_n_n none (sitofp .bf16 (extsi 32 X natLt_8_32)) D

/-- The reference's result as a function of its arguments. -/
def result (X : Vec Ideal S2x1536x1920 .i8) (xs : Vec Ideal S2x1536 .f32) (P : Vec Ideal S1920x1856 .i8) (S Z : Vec Ideal S15x3712 .i8)
    (cs : Vec Ideal S3712 .f32) : FVec Ideal S3072x3712 .bf16 :=
  shapeCast _ (truncf .bf16 (mulf (mulf (concatenate S2x1536x3712 2
      [⟨S2x1536x1856, product X (half ![0, 0] slices_S15x3712_S15x1856_0_0 (low P) S Z)⟩,
        ⟨S2x1536x1856, product X (half ![0, 1856] slices_S15x3712_S15x1856_0_1856 (high P) S Z)⟩]
      concatenates_S2x1536x1856_S2x1536x1856_S2x1536x3712_d2)
    (broadcastInDim S2x1536x3712 ![0, 1, 2] bcast_S2x1536x1_S2x1536x3712_0_1_2 (broadcastInDim S2x1536x1 ![0, 1] bcast_S2x1536_S2x1536x1_0_1 xs)))
    (broadcastInDim S2x1536x3712 ![0, 1, 2] bcast_S1x1x3712_S2x1536x3712_0_1_2 (broadcastInDim S1x1x3712 ![2] bcast_S3712_S1x1x3712_2 cs)))
    bitsLt_bf16_f32) shapeCasts_S2x1536x3712_S3072x3712

/-- A half of the dequantized weight at an index: the code there, times its group's scale, minus its group's zero term. -/
theorem half_apply (o : Nat) (ho : o + 1856 ≤ 3712) (hs : S15x3712.Slices ![0, o] S15x1856) (q : IVec S1920x1856 32)
    (S Z : Vec Ideal S15x3712 .i8) (k : Fin 1920) (n : Fin 1856) :
    half ![0, o] hs q S Z (ix2 k n)
      = real (q (ix2 k n)).toInt * real ((S (ix2 ⟨k.val / 128, by omega⟩ ⟨o + n.val, by omega⟩)).toNat : ℕ)
        - real ((Z (ix2 ⟨k.val / 128, by omega⟩ ⟨o + n.val, by omega⟩)).toNat : ℕ) := by
  pointwise [half]
  show real _ * real (BitVec.setWidth 32 _).toInt - real (BitVec.setWidth 32 _).toInt = _
  rw [Nibble.toInt_wide, Nibble.toInt_wide]

/-- The left half is the weight's left half, … -/
theorem left_apply (P : Vec Ideal S1920x1856 .i8) (S Z : Vec Ideal S15x3712 .i8) (k : Fin 1920) (n : Fin 3712) (h : n.val < 1856) :
    half ![0, 0] slices_S15x3712_S15x1856_0_0 (low P) S Z (ix2 k ⟨n.val, h⟩) = weight P S Z k n := by
  have hq : (low P (ix2 k ⟨n.val, h⟩)).toInt = ((code P k n : ℕ) : ℤ) := by
    unfold code; rw [dif_pos h]; exact Nibble.toInt_wide_low _
  have hn : (⟨0 + n.val, by omega⟩ : Fin 3712) = n := Fin.ext (Nat.zero_add _)
  rw [half_apply 0 (by decide), hq, hn]
  rfl

/-- … and the right half its right half. -/
theorem right_apply (P : Vec Ideal S1920x1856 .i8) (S Z : Vec Ideal S15x3712 .i8) (k : Fin 1920) (n : Fin 3712) (h : ¬ n.val < 1856) :
    half ![0, 1856] slices_S15x3712_S15x1856_0_1856 (high P) S Z (ix2 k ⟨n.val - 1856, by omega⟩) = weight P S Z k n := by
  have hq : (high P (ix2 k ⟨n.val - 1856, by omega⟩)).toInt = ((code P k n : ℕ) : ℤ) := by
    unfold code; rw [dif_neg h]; exact Nibble.toInt_wide_high _
  have hn : (⟨1856 + (n.val - 1856), by omega⟩ : Fin 3712) = n := Fin.ext (by show 1856 + (n.val - 1856) = n.val; omega)
  rw [half_apply 1856 (by decide), hq, hn]
  rfl

/-- A product at an index is the sum over the input's features. -/
theorem product_apply (X : Vec Ideal S2x1536x1920 .i8) (D : FVec Ideal S1920x1856 .bf16) (b : Fin 2) (s : Fin 1536) (n : Fin 1856) :
    product X D (ix3 b s n) = ∑ k : Fin 1920, real (X (ix3 b s k)).toInt * D (ix2 k n) := by
  pointwise [product]
  refine Finset.sum_congr rfl fun k _ => ?_
  show real (BitVec.signExtend 32 _).toInt * _ = _
  rw [Nibble.toInt_signExtend]

/-- THE RESULT at a token and an output is `Spec.linear` of the arguments there. -/
theorem result_apply (X : Vec Ideal S2x1536x1920 .i8) (xs : Vec Ideal S2x1536 .f32) (P : Vec Ideal S1920x1856 .i8)
    (S Z : Vec Ideal S15x3712 .i8) (cs : Vec Ideal S3712 .f32) (t : Fin 3072) (n : Fin 3712) :
    result X xs P S Z cs (ix2 t n) = linear X xs P S Z cs t n := by
  pointwise [result]
  unfold linear
  refine congrArg₂ (· * ·) (congrArg₂ (· * ·) ?_ rfl) rfl
  split
  next h =>
    rw [product_apply]
    exact Finset.sum_congr rfl fun k _ => by rw [left_apply]
  next h =>
    rw [product_apply]
    exact Finset.sum_congr rfl fun k _ => by rw [right_apply P S Z k n h]

end Cert.Proof.Reference

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Fold
public import proofs.«01_k».proof.Proof.Reference

@[expose] public section

noncomputable section

namespace Cert.Proof

open Idealize.ShloMosaic Idealize.SL.Sem

/-- The reference terminates without fault and leaves its arguments and every counter as they were. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel and the reference leave the same array, on memories that agree on the arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5⟩ := hagree c
  rw [(h c).1]
  refine funext fun (i : (⟨2, ![3072, 3712]⟩ : Shape).Idx) => ?_
  rw [eq_ix2 i]
  refine (Reference.result_apply _ _ _ _ _ _ (i 0) (i 1)).trans (Eq.trans ?_ (Fold.result m c (i 0) (i 1)).symm)
  rw [h0, h1, h2, h3, h4, h5]

/-- The five claims together. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, quiescent_ReferenceIdeal, (trivial : preserves_Kernel_KernelIdeal), algebraic_KernelIdeal_ReferenceIdeal⟩

end Cert.Proof

end
